-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x2048 : Shape := ⟨3, ![4, 384, 2048]⟩
abbrev S1024x5632 : Shape := ⟨2, ![1024, 5632]⟩
abbrev S16x5632 : Shape := ⟨2, ![16, 5632]⟩
abbrev S2048x12 : Shape := ⟨2, ![2048, 12]⟩
abbrev S12x5632 : Shape := ⟨2, ![12, 5632]⟩
abbrev S1536x2048 : Shape := ⟨2, ![1536, 2048]⟩
abbrev S1536x5632 : Shape := ⟨2, ![1536, 5632]⟩
abbrev S1024x512 : Shape := ⟨2, ![1024, 512]⟩
abbrev S16x512 : Shape := ⟨2, ![16, 512]⟩
abbrev S12x512 : Shape := ⟨2, ![12, 512]⟩
abbrev S1536x512 : Shape := ⟨2, ![1536, 512]⟩
abbrev S2048x512 : Shape := ⟨2, ![2048, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S128x12 : Shape := ⟨2, ![128, 12]⟩
abbrev S4x384x5632 : Shape := ⟨3, ![4, 384, 5632]⟩

abbrev nBuf : Space → Nat
  | .hbm => 11
  | .vmem => 16
  | .smem => 0
  | _ => 0

abbrev bufTy : (tb : Table) → Fin (tcTables nBuf tb) → BufTy
  | .hbm, ⟨0, _⟩ => ⟨S4x384x2048, .bf16⟩
  | .hbm, ⟨1, _⟩ => ⟨S1024x5632, .i8⟩
  | .hbm, ⟨2, _⟩ => ⟨S16x5632, .bf16⟩
  | .hbm, ⟨3, _⟩ => ⟨S16x5632, .bf16⟩
  | .hbm, ⟨4, _⟩ => ⟨S2048x12, .bf16⟩
  | .hbm, ⟨5, _⟩ => ⟨S2048x12, .bf16⟩
  | .hbm, ⟨6, _⟩ => ⟨S12x5632, .bf16⟩
  | .hbm, ⟨7, _⟩ => ⟨S12x5632, .bf16⟩
  | .hbm, ⟨8, _⟩ => ⟨S1536x2048, .bf16⟩
  | .hbm, ⟨9, _⟩ => ⟨S1536x5632, .bf16⟩
  | .hbm, ⟨10, _⟩ => ⟨S4x384x5632, .bf16⟩
  | .local _ .vmem, ⟨0, _⟩ => ⟨S1536x2048, .bf16⟩
  | .local _ .vmem, ⟨1, _⟩ => ⟨S1024x512, .i8⟩
  | .local _ .vmem, ⟨2, _⟩ => ⟨S1024x512, .i8⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S2048x12, .bf16⟩
  | .local _ .vmem, ⟨8, _⟩ => ⟨S2048x12, .bf16⟩
  | .local _ .vmem, ⟨9, _⟩ => ⟨S12x512, .bf16⟩
  | .local _ .vmem, ⟨10, _⟩ => ⟨S12x512, .bf16⟩
  | .local _ .vmem, ⟨11, _⟩ => ⟨S12x512, .bf16⟩
  | .local _ .vmem, ⟨12, _⟩ => ⟨S12x512, .bf16⟩
  | .local _ .vmem, ⟨13, _⟩ => ⟨S1536x512, .bf16⟩
  | .local _ .vmem, ⟨14, _⟩ => ⟨S1536x512, .bf16⟩
  | .local _ .vmem, ⟨15, _⟩ => ⟨S2048x512, .bf16⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x12 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x12 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x384x2048 : Shape := ⟨3, ![4, 384, 2048]⟩
abbrev S1024x5632 : Shape := ⟨2, ![1024, 5632]⟩
abbrev S16x5632 : Shape := ⟨2, ![16, 5632]⟩
abbrev S2048x12 : Shape := ⟨2, ![2048, 12]⟩
abbrev S12x5632 : Shape := ⟨2, ![12, 5632]⟩
abbrev S16x64x5632 : Shape := ⟨3, ![16, 64, 5632]⟩
abbrev S_ : Shape := ⟨0, ![]⟩
abbrev S1024x12 : Shape := ⟨2, ![1024, 12]⟩
abbrev S4x384x1024 : Shape := ⟨3, ![4, 384, 1024]⟩
abbrev S4x384x5632 : Shape := ⟨3, ![4, 384, 5632]⟩

abbrev nBuf : Space → Nat
  | .hbm => 60
  | .vmem => 0
  | .smem => 0
  | _ => 0

abbrev bufTy : (tb : Table) → Fin (tcTables nBuf tb) → BufTy
  | .hbm, ⟨0, _⟩ => ⟨S4x384x2048, .bf16⟩
  | .hbm, ⟨1, _⟩ => ⟨S1024x5632, .i8⟩
  | .hbm, ⟨2, _⟩ => ⟨S16x5632, .bf16⟩
  | .hbm, ⟨3, _⟩ => ⟨S16x5632, .bf16⟩
  | .hbm, ⟨4, _⟩ => ⟨S2048x12, .bf16⟩
  | .hbm, ⟨5, _⟩ => ⟨S2048x12, .bf16⟩
  | .hbm, ⟨6, _⟩ => ⟨S12x5632, .bf16⟩
  | .hbm, ⟨7, _⟩ => ⟨S12x5632, .bf16⟩
  | .hbm, ⟨8, _⟩ => ⟨S16x64x5632, .bf16⟩
  | .hbm, ⟨9, _⟩ => ⟨S1024x5632, .bf16⟩
  | .hbm, ⟨10, _⟩ => ⟨S16x64x5632, .bf16⟩
  | .hbm, ⟨11, _⟩ => ⟨S1024x5632, .bf16⟩
  | .hbm, ⟨12, _⟩ => ⟨S1024x5632, .i32⟩
  | .hbm, ⟨13, _⟩ => ⟨S_, .i32⟩
  | .hbm, ⟨14, _⟩ => ⟨S1024x5632, .i32⟩
  | .hbm, ⟨15, _⟩ => ⟨S1024x5632, .i32⟩
  | .hbm, ⟨16, _⟩ => ⟨S_, .i32⟩
  | .hbm, ⟨17, _⟩ => ⟨S1024x5632, .i32⟩
  | .hbm, ⟨18, _⟩ => ⟨S1024x5632, .i32⟩
  | .hbm, ⟨19, _⟩ => ⟨S1024x5632, .bf16⟩
  | .hbm, ⟨20, _⟩ => ⟨S1024x5632, .bf16⟩
  | .hbm, ⟨21, _⟩ => ⟨S1024x5632, .bf16⟩
  | .hbm, ⟨22, _⟩ => ⟨S1024x12, .bf16⟩
  | .hbm, ⟨23, _⟩ => ⟨S1024x5632, .f32⟩
  | .hbm, ⟨24, _⟩ => ⟨S1024x12, .bf16⟩
  | .hbm, ⟨25, _⟩ => ⟨S1024x5632, .f32⟩
  | .hbm, ⟨26, _⟩ => ⟨S1024x5632, .f32⟩
  | .hbm, ⟨27, _⟩ => ⟨S_, .f32⟩
  | .hbm, ⟨28, _⟩ => ⟨S1024x5632, .f32⟩
  | .hbm, ⟨29, _⟩ => ⟨S1024x5632, .f32⟩
  | .hbm, ⟨30, _⟩ => ⟨S1024x5632, .f32⟩
  | .hbm, ⟨31, _⟩ => ⟨S1024x5632, .f32⟩
  | .hbm, ⟨32, _⟩ => ⟨S1024x5632, .bf16⟩
  | .hbm, ⟨33, _⟩ => ⟨S4x384x1024, .bf16⟩
  | .hbm, ⟨34, _⟩ => ⟨S4x384x5632, .f32⟩
  | .hbm, ⟨35, _⟩ => ⟨S1024x5632, .i32⟩
  | .hbm, ⟨36, _⟩ => ⟨S_, .i32⟩
  | .hbm, ⟨37, _⟩ => ⟨S1024x5632, .i32⟩
  | .hbm, ⟨38, _⟩ => ⟨S1024x5632, .i32⟩
  | .hbm, ⟨39, _⟩ => ⟨S_, .i32⟩
  | .hbm, ⟨40, _⟩ => ⟨S1024x5632, .i32⟩
  | .hbm, ⟨41, _⟩ => ⟨S1024x5632, .i32⟩
  | .hbm, ⟨42, _⟩ => ⟨S1024x5632, .bf16⟩
  | .hbm, ⟨43, _⟩ => ⟨S1024x5632, .bf16⟩
  | .hbm, ⟨44, _⟩ => ⟨S1024x5632, .bf16⟩
  | .hbm, ⟨45, _⟩ => ⟨S1024x12, .bf16⟩
  | .hbm, ⟨46, _⟩ => ⟨S1024x5632, .f32⟩
  | .hbm, ⟨47, _⟩ => ⟨S1024x12, .bf16⟩
  | .hbm, ⟨48, _⟩ => ⟨S1024x5632, .f32⟩
  | .hbm, ⟨49, _⟩ => ⟨S1024x5632, .f32⟩
  | .hbm, ⟨50, _⟩ => ⟨S_, .f32⟩
  | .hbm, ⟨51, _⟩ => ⟨S1024x5632, .f32⟩
  | .hbm, ⟨52, _⟩ => ⟨S1024x5632, .f32⟩
  | .hbm, ⟨53, _⟩ => ⟨S1024x5632, .f32⟩
  | .hbm, ⟨54, _⟩ => ⟨S1024x5632, .f32⟩
  | .hbm, ⟨55, _⟩ => ⟨S1024x5632, .bf16⟩
  | .hbm, ⟨56, _⟩ => ⟨S4x384x1024, .bf16⟩
  | .hbm, ⟨57, _⟩ => ⟨S4x384x5632, .f32⟩
  | .hbm, ⟨58, _⟩ => ⟨S4x384x5632, .f32⟩
  | .hbm, ⟨59, _⟩ => ⟨S4x384x5632, .bf16⟩
  | _, _ => ⟨S4x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.Block.lean ====
/- What one grid point of the kernel computes: the weight block it assembles in scratch, group by group, and its product with the activations. -/
module
public import proofs.«01_k».proof.Proof.Gen.KernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

/-- The effective weight at one element: nibble `b` (0 low, 1 high) of the code byte `q`, minus the zero point `z`, times the scale `s`,
    plus the rank coefficient times the two low-rank products `p1` and `p2`. -/
def wElt (q : BitVec 8) (b : ℕ) (z s p1 p2 : EReal) : EReal :=
  ((FloatOps.sitofp (F := Ideal) FTy.bf16
      (IntOp.andi (IntOp.shrsi ArithUnit.vector (BitVec.setWidth 32 q) (IntOp.muli (4#32) (BitVec.ofNat 32 b))) 15#32) : EReal) - z) * s
    + Ideal.ofBits FTy.f32 1051372203#32 * p1 * p2

/-- The weight at row `k` and column `n`: row `k` takes nibble `k % 2` of code row `k / 2` and the scale and zero point of group `k / 128`.
    The number of columns `N` is a block's or the whole array's. -/
def wRow {N : ℕ} (c : Vec Ideal ⟨2, ![1024, N]⟩ .i8) (s z : Vec Ideal ⟨2, ![16, N]⟩ .bf16) (u1 u2 : Vec Ideal S2048x12 .bf16)
    (v1 v2 : Vec Ideal ⟨2, ![12, N]⟩ .bf16) (k : Fin 2048) (n : Fin N) : EReal :=
  wElt (c (ix2 ⟨k.val / 2, by omega⟩ n)) (k.val % 2) (z (ix2 ⟨k.val / 128, by omega⟩ n)) (s (ix2 ⟨k.val / 128, by omega⟩ n))
    (∑ r : Fin 12, u1 (ix2 k r) * v1 (ix2 r n)) (∑ r : Fin 12, u2 (ix2 k r) * v2 (ix2 r n))

/-- The scratch block of weights as one function of its index. -/
def blockW (c : Vec Ideal S1024x512 .i8) (s z : Vec Ideal S16x512 .bf16) (u1 u2 : Vec Ideal S2048x12 .bf16) (v1 v2 : Vec Ideal S12x512 .bf16) :
    Vec Ideal S2048x512 .bf16 := fun j => wRow c s z u1 u2 v1 v2 (j 0) (j 1)

/-- The 128 rows stored for group `g`, computed from the loads of that group's codes, zero point, scale and low-rank rows,
    are the rows of `blockW` they are stored at. -/
theorem piece (c : Vec Ideal S1024x512 .i8) (s z : Vec Ideal S16x512 .bf16) (u1 u2 : Vec Ideal S2048x12 .bf16) (v1 v2 : Vec Ideal S12x512 .bf16)
    (g oc ou : ℕ) (hc : oc = 64 * g) (hu : ou = 128 * g)
    (ic : ∀ a, (![oc, 0] : Fin 2 → ℕ) a + S64x512.size a ≤ S1024x512.size a) (is : ∀ a, (![g, 0] : Fin 2 → ℕ) a + S1x512.size a ≤ S16x512.size a)
    (iu : ∀ a, (![ou, 0] : Fin 2 → ℕ) a + S128x12.size a ≤ S2048x12.size a) (iw : ∀ a, (![ou, 0] : Fin 2 → ℕ) a + S128x512.size a ≤ S2048x512.size a)
    (j : S128x512.Idx) :
    k0_pay2 (F := Ideal) (View.ld c (Rect.unit (s := S1024x512) ![oc, 0] S64x512.size ic)) (View.ld z (Rect.unit (s := S16x512) ![g, 0] S1x512.size is))
        (View.ld s (Rect.unit (s := S16x512) ![g, 0] S1x512.size is)) (View.ld u1 (Rect.unit (s := S2048x12) ![ou, 0] S128x12.size iu)) v1
        (View.ld u2 (Rect.unit (s := S2048x12) ![ou, 0] S128x12.size iu)) v2 j
      = blockW c s z u1 u2 v1 v2 ((Rect.unit (s := S2048x512) ![ou, 0] S128x512.size iw).emb j) := by
  subst hc hu
  have hg : g < 16 := by have := is 0; simp at this; omega
  idx_vars j
  have he : (Rect.unit (s := S2048x512) ![128 * g, 0] S128x512.size iw).emb (ix2 j0 j1) = ix2 ⟨128 * g + j0.val, by omega⟩ j1 := by
    funext a; apply Fin.ext
    show (![128 * g, 0] : Fin 2 → ℕ) a + 1 * (ix2 j0 j1 a).val = _
    fin_cases a <;> simp [ix2]
  rw [he]
  show _ = wRow c s z u1 u2 v1 v2 ⟨128 * g + j0.val, by omega⟩ j1
  have h2 : (128 * g + j0.val) / 2 = 64 * g + j0.val / 2 := by omega
  have hm : (128 * g + j0.val) % 2 = j0.val % 2 := by omega
  have hd : (128 * g + j0.val) / 128 = g := by omega
  simp only [wRow, wElt, h2, hm, hd]
  pointwise [k0_pay2]

/-- One element of the block a grid point writes: row `i` of the activations against column `n` of the weight block. -/
theorem block_out (x : Vec Ideal S1536x2048 .bf16) (w : Vec Ideal S2048x512 .bf16) (i : Fin 1536) (n : Fin 512) :
    k0_pay1 (F := Ideal) x w (ix2 i n) = ∑ k : Fin 2048, x (ix2 i k) * w (ix2 k n) := by
  pointwise [k0_pay1]

/-- Weights computed from two sets of operands agree where the columns they are computed from agree. -/
theorem wRow_congr {N N' : ℕ} {c : Vec Ideal ⟨2, ![1024, N]⟩ .i8} {s z : Vec Ideal ⟨2, ![16, N]⟩ .bf16} {u1 u2 : Vec Ideal S2048x12 .bf16}
    {v1 v2 : Vec Ideal ⟨2, ![12, N]⟩ .bf16} {c' : Vec Ideal ⟨2, ![1024, N']⟩ .i8} {s' z' : Vec Ideal ⟨2, ![16, N']⟩ .bf16}
    {u1' u2' : Vec Ideal S2048x12 .bf16} {v1' v2' : Vec Ideal ⟨2, ![12, N']⟩ .bf16} (k : Fin 2048) (n : Fin N) (n' : Fin N')
    (hc : ∀ i, c (ix2 i n) = c' (ix2 i n')) (hs : ∀ i, s (ix2 i n) = s' (ix2 i n')) (hz : ∀ i, z (ix2 i n) = z' (ix2 i n'))
    (h1 : ∀ r, u1 (ix2 k r) = u1' (ix2 k r)) (h2 : ∀ r, u2 (ix2 k r) = u2' (ix2 k r))
    (h3 : ∀ r, v1 (ix2 r n) = v1' (ix2 r n')) (h4 : ∀ r, v2 (ix2 r n) = v2' (ix2 r n')) :
    wRow c s z u1 u2 v1 v2 k n = wRow c' s' z' u1' u2' v1' v2' k n' := by
  simp only [wRow, hc, hs, hz, h1, h2, h3, h4]

variable (m : (ℓ : Loc nD τ sig) → Buf (Elt Ideal) ℓ)

/-- The kernel's result over its rows flattened: row `i` of the activations against column `n` of the weights. -/
def outG (x : Vec Ideal S1536x2048 .bf16) (c : Vec Ideal S1024x5632 .i8) (s z : Vec Ideal S16x5632 .bf16) (u1 u2 : Vec Ideal S2048x12 .bf16)
    (v1 v2 : Vec Ideal S12x5632 .bf16) : Vec Ideal S1536x5632 .bf16 :=
  fun j => ∑ k : Fin 2048, x (ix2 (j 0) k) * wRow c s z u1 u2 v1 v2 k (j 1)

/-- Where each window's block lies at grid point `t`: the activations and the two tall low-rank factors whole, every other array at its
    `t`-th block of columns. -/
theorem idx_pt : ∀ t : Fin cfg0.grid.N, (win0_0.index t 0 = 0 ∧ win0_0.index t 1 = 0) ∧ (win0_1.index t 0 = 0 ∧ win0_1.index t 1 = t.val) ∧
    (win0_2.index t 0 = 0 ∧ win0_2.index t 1 = t.val) ∧ (win0_3.index t 0 = 0 ∧ win0_3.index t 1 = t.val) ∧
    (win0_4.index t 0 = 0 ∧ win0_4.index t 1 = 0) ∧ (win0_5.index t 0 = 0 ∧ win0_5.index t 1 = 0) ∧
    (win0_6.index t 0 = 0 ∧ win0_6.index t 1 = t.val) ∧ (win0_7.index t 0 = 0 ∧ win0_7.index t 1 = t.val) ∧
    (win0_8.index t 0 = 0 ∧ win0_8.index t 1 = t.val) := by decide +kernel

set_option maxHeartbeats 1000000 in
/-- The array the kernel's region writes, read after its last grid point. -/
theorem arr_out (c : Dev nD) : (dats m 0 c).arrAt 8 cfg0.N
    = outG (V m c main_v0) (V m c main_arg1) (V m c main_arg2) (V m c main_arg3) (V m c main_arg4) (V m c main_arg5) (V m c main_arg6) (V m c main_arg7) := by
  refine (dats m 0 c).arrAt_eq_of_covers 8 _ (by decide +kernel) fun t hf y => ?_
  blk_simp; rw [after0_8]; unfold outsAt0; frame_out
  idx_vars y
  rw [View.readCov_eq_canon', block_out]
  refine (Finset.sum_congr (M := EReal) rfl fun k _ => congrArg (HMul.hMul (_ : EReal)) (View.canon_apply_of_pieces (blockW (iblk m c 1 t) (iblk m c 2 t) (iblk m c 3 t) (iblk m c 4 t)
    (iblk m c 5 t) (iblk m c 6 t) (iblk m c 7 t)) _ (View.PiecesOf.mem ?pcs) _
    ?cov)).trans ?_
  case pcs => exact ⟨piece _ _ _ _ _ _ _ 15 960 1920 rfl rfl _ _ _ (by decide),
      piece _ _ _ _ _ _ _ 14 896 1792 rfl rfl _ _ _ (by decide),
      piece _ _ _ _ _ _ _ 13 832 1664 rfl rfl _ _ _ (by decide),
      piece _ _ _ _ _ _ _ 12 768 1536 rfl rfl _ _ _ (by decide),
      piece _ _ _ _ _ _ _ 11 704 1408 rfl rfl _ _ _ (by decide),
      piece _ _ _ _ _ _ _ 10 640 1280 rfl rfl _ _ _ (by decide),
      piece _ _ _ _ _ _ _ 9 576 1152 rfl rfl _ _ _ (by decide),
      piece _ _ _ _ _ _ _ 8 512 1024 rfl rfl _ _ _ (by decide),
      piece _ _ _ _ _ _ _ 7 448 896 rfl rfl _ _ _ (by decide),
      piece _ _ _ _ _ _ _ 6 384 768 rfl rfl _ _ _ (by decide),
      piece _ _ _ _ _ _ _ 5 320 640 rfl rfl _ _ _ (by decide),
      piece _ _ _ _ _ _ _ 4 256 512 rfl rfl _ _ _ (by decide),
      piece _ _ _ _ _ _ _ 3 192 384 rfl rfl _ _ _ (by decide),
      piece _ _ _ _ _ _ _ 2 128 256 rfl rfl _ _ _ (by decide),
      piece _ _ _ _ _ _ _ 1 64 128 rfl rfl _ _ _ (by decide),
      piece _ _ _ _ _ _ _ 0 0 0 rfl rfl _ _ _ (by decide), trivial⟩
  case cov =>
    refine View.cover_of_tiledL (s := S2048x512) _ S128x512.size ?_ _
    sl_kernel_rfl
  have ht : t.val < 11 := t.isLt
  obtain ⟨⟨a0, b0⟩, ⟨a1, b1⟩, ⟨a2, b2⟩, ⟨a3, b3⟩, ⟨a4, b4⟩, ⟨a5, b5⟩, ⟨a6, b6⟩, ⟨a7, b7⟩, a8, b8⟩ := idx_pt t
  have hk : ∀ k : Fin 2048, (Rect.unit (s := S2048x512) ![0, 0] ![2048, 512] inb_S2048x512_S2048x512_0_0).idx (ix2 k y1) = ix2 k y1 := by
    intro k; funext a; apply Fin.ext
    show (![0, 0] : Fin 2 → ℕ) a + 1 * (ix2 k y1 a).val = _
    fin_cases a <;> simp [ix2]
  have he : ((View.whole main_v1).slice (win0_8.rect t)).emb (ix2 y0 y1) = (ix2 y0 ⟨512 * t.val + y1.val, by omega⟩ : S1536x5632.Idx) := by
    blk_ext [a8, b8]
  rw [he]
  refine Finset.sum_congr (M := EReal) rfl fun k _ => ?_
  rw [hk]
  refine congrArg₂ (HMul.hMul : EReal → EReal → EReal) ?_ (wRow_congr k y1 ⟨512 * t.val + y1.val, by omega⟩ ?_ ?_ ?_ ?_ ?_ ?_ ?_)
  · blk_ext [iblk, a0, b0]
  · intro i; blk_ext [iblk, a1, b1]
  · intro i; blk_ext [iblk, a2, b2]
  · intro i; blk_ext [iblk, a3, b3]
  · intro i; blk_ext [iblk, a4, b4]
  · intro i; blk_ext [iblk, a5, b5]
  · intro i; blk_ext [iblk, a6, b6]
  · intro i; blk_ext [iblk, a7, b7]
-- ==== Proof.Result.lean ====
/- The whole kernel program's result buffer: the reshape of what the region writes, over the arguments' own contents. -/
module
public import proofs.«01_k».proof.Proof.Block
@[expose] public section
set_option maxRecDepth 16384
noncomputable section
namespace Cert.KernelIdeal.Gen
open Idealize.ShloMosaic Idealize.ShloMosaic.TcCoe Idealize.ShloMosaic.Tactic Idealize.ShloMosaic.StableHlo

variable (m : (ℓ : Loc nD τ sig) → Buf (Elt Ideal) ℓ)

/-- The region finds the activations with their rows flattened. -/
theorem V_main_v0 (c : Dev nD) : V m c main_v0 = shapeCast S1536x2048 (m ((c.tc : Thread nD τ).loc main_arg0)) shapeCasts_S4x384x2048_S1536x2048 := by
  show StableHlo.after (List.flatten [hostOps0]) _ _ = _
  simp only [List.flatten_cons, List.flatten_nil, List.append_nil]
  after_results
  rfl

/-- The result buffer after the whole program: the region's output array, its rows split back into batches. -/
theorem tail_result (c : Dev nD) : Pipeline.afterTail₀ cfgs (dats m) 0 (V0 m) [hostOps1] c main_v2
    = shapeCast S4x384x5632 ((dats m 0 c).arrAt 8 cfg0.N) shapeCasts_S1536x5632_S4x384x5632 := by
  unfold Pipeline.afterTail₀
  simp only [List.flatten_cons, List.flatten_nil, List.append_nil]
  after_results
  rw [Pipeline.withArrays_arr spec0 (by decide) c _ _ 8]
  rfl

/-- The result buffer as a function of the arguments. -/
theorem kernel_result (c : Dev nD) : Pipeline.afterTail₀ cfgs (dats m) 0 (V0 m) [hostOps1] c main_v2
    = shapeCast S4x384x5632 (outG (shapeCast S1536x2048 (m ((c.tc : Thread nD τ).loc main_arg0)) shapeCasts_S4x384x2048_S1536x2048)
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7))) shapeCasts_S1536x5632_S4x384x5632 := by
  rw [tail_result, arr_out, V_main_v0, V_main_arg1, V_main_arg2, V_main_arg3, V_main_arg4, V_main_arg5, V_main_arg6, V_main_arg7]

end Cert.KernelIdeal.Gen
-- ==== Proof.Equation.lean ====
/- The kernel's result and the reference's are the same function of the arguments: the kernel sums over all 2048 rows of the weights at once,
   the reference over the even rows and over the odd rows apart. -/
module
public import proofs.«01_k».proof.Proof.Block
public import proofs.«01_k».proof.Proof.Gen.ReferenceIdeal.Read
@[expose] public section
set_option maxRecDepth 16384
noncomputable section
namespace Cert.Equation
open Cert.ReferenceIdeal Cert.ReferenceIdeal.Gen Cert.ReferenceIdeal.Read
open Idealize.ShloMosaic Idealize.ShloMosaic.TcCoe Idealize.ShloMosaic.StableHlo Idealize.ShloMosaic.Tactic

/-- A sum over 2048 rows is the sum over the even rows plus the sum over the odd rows. -/
theorem sum_even_odd (f : Fin 2048 → EReal) :
    ∑ k, f k = (∑ i : Fin 1024, f ⟨2 * i.val, by omega⟩) + ∑ i : Fin 1024, f ⟨1 + 2 * i.val, by omega⟩ := by
  rw [← Equiv.sum_comp (finProdFinEquiv : Fin 1024 × Fin 2 ≃ Fin 2048), Fintype.sum_prod_type, ← Finset.sum_add_distrib]
  refine Finset.sum_congr rfl fun i _ => ?_
  rw [Fin.sum_univ_two]
  congr 2 <;> apply Fin.ext <;> simp [finProdFinEquiv]

/-- Shifting a code byte right by 4 times its nibble number is the same on either side. -/
theorem shift_eq (q : BitVec 8) (b : ℕ) (hb : b < 2) (w : BitVec 32) (hw : w = BitVec.ofNat 32 (4 * b)) :
    IntOp.shrsi ArithUnit.vector (BitVec.setWidth 32 q) (IntOp.muli (4#32) (BitVec.ofNat 32 b)) = IntOp.shrsi ArithUnit.host (BitVec.setWidth 32 q) w := by
  subst hw
  interval_cases b <;> rfl

variable (x0 : Vec Ideal S4x384x2048 .bf16) (x1 : Vec Ideal S1024x5632 .i8)
    (x2 x3 : Vec Ideal S16x5632 .bf16) (x4 x5 : Vec Ideal S2048x12 .bf16) (x6 x7 : Vec Ideal S12x5632 .bf16)

/-- The weight at a row given by its half and its parity, as the reference spells it. -/
theorem wRow_ref (k : Fin 2048) (i : Fin 1024) (n : Fin 5632) (b : ℕ) (hb : b < 2) (hk : k.val = 2 * i.val + b) (w : BitVec 32) (hw : w = BitVec.ofNat 32 (4 * b)) :
    Cert.KernelIdeal.Gen.wRow x1 x2 x3 x4 x5 x6 x7 k n =
      ((FloatOps.sitofp (F := Ideal) FTy.bf16 (IntOp.andi (IntOp.shrsi ArithUnit.host (BitVec.setWidth 32 (x1 (ix2 i n))) w) 15#32) : EReal)
          - x3 (ix2 ⟨i.val / 64, by omega⟩ n)) * x2 (ix2 ⟨i.val / 64, by omega⟩ n)
        + (Ideal.ofBits FTy.f32 1051372203#32 * ∑ r, x4 (ix2 k r) * x6 (ix2 r n)) * ∑ r, x5 (ix2 k r) * x7 (ix2 r n) := by
  have h2 : k.val / 2 = i.val := by omega
  have hm : k.val % 2 = b := by omega
  have hd : k.val / 128 = i.val / 64 := by omega
  simp only [Cert.KernelIdeal.Gen.wRow, Cert.KernelIdeal.Gen.wElt, h2, hm, hd, shift_eq _ b hb w hw]

/-- One element of the reference's result is the row of the activations against the column of the weights. -/
theorem ref_apply (b : Fin 4) (s : Fin 384) (n : Fin 5632) :
    val_main_v45 (F := Ideal) x0 x1 x2 x3 x4 x5 x6 x7 (ix3 b s n)
      = ∑ k : Fin 2048, x0 (ix3 b s k) * Cert.KernelIdeal.Gen.wRow x1 x2 x3 x4 x5 x6 x7 k n := by
  rw [sum_even_odd]
  simp only [fun i : Fin 1024 => wRow_ref x1 x2 x3 x4 x5 x6 x7 ⟨2 * i.val, by omega⟩ i n 0 (by omega) rfl 0#32 rfl,
    fun i : Fin 1024 => wRow_ref x1 x2 x3 x4 x5 x6 x7 ⟨1 + 2 * i.val, by omega⟩ i n 1 (by omega) (by simp; omega) 4#32 rfl]
  pointwise [val_main_v0, val_main_v1, val_main_v2, val_main_v3, val_main_v4, val_main_c, val_main_v5, val_main_v6, val_main_c_0,
    val_main_v7, val_main_v8, val_main_v9, val_main_v10, val_main_v11, val_main_v12, val_main_v13, val_main_v14, val_main_v15,
    val_main_v16, val_main_v17, val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35, val_main_v36, val_main_v37, val_main_v38,
    val_main_v39, val_main_v40, val_main_v41, val_main_v42, val_main_v43, val_main_v44, val_main_v45, val_main_cst, val_main_cst_3, val_main_c_1, val_main_c_2]

/-- The kernel's result, reshaped to batches, is the reference's. -/
theorem result_eq :
    shapeCast Cert.KernelIdeal.S4x384x5632 (Cert.KernelIdeal.Gen.outG
        (shapeCast Cert.KernelIdeal.S1536x2048 x0 Cert.KernelIdeal.Gen.shapeCasts_S4x384x2048_S1536x2048) x1 x2 x3 x4 x5 x6 x7)
        Cert.KernelIdeal.Gen.shapeCasts_S1536x5632_S4x384x5632
      = val_main_v45 (F := Ideal) x0 x1 x2 x3 x4 x5 x6 x7 := by
  funext j
  idx_vars j
  rw [ref_apply]
  pointwise [Cert.KernelIdeal.Gen.outG]
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Run on the same arguments, with floats read as extended reals, the kernel and the reference end with equal results and leave their arguments
    as they were. -/
theorem algebraic : Cert.algebraic_KernelIdeal_ReferenceIdeal (hKernelIdeal := Cert.KernelIdeal.Gen.facts) (hReferenceIdeal := Cert.ReferenceIdeal.Gen.facts) := by
  pair_intro
  · run_from (Cert.KernelIdeal.Gen.unchanged m g) & (Cert.KernelIdeal.Gen.run_main m g)
  · run_from (Cert.ReferenceIdeal.Value.run (F := Ideal) m' g')
    rw [Cert.KernelIdeal.Gen.kernel_result]
    exact (Cert.Equation.result_eq _ _ _ _ _ _ _ _).symm

/-- Everything the statement states: the three frames, that the idealization kept the kernel's own operations, and the equation of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun _ h => ⟨fun c => (h c).2, Idealize.ShloMosaic.sem_eq_zero_of_no_sems (by decide) _⟩) (Cert.ReferenceIdeal.Value.run m ρ),
  trivial, algebraic⟩

end Cert.Proof

end
